-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16384x1024 : Shape := ⟨2, ![16384, 1024]⟩
abbrev S1024 : Shape := ⟨1, ![1024]⟩
abbrev S16384x1 : Shape := ⟨2, ![16384, 1]⟩
abbrev S512 : Shape := ⟨1, ![512]⟩
abbrev S_ : Shape := ⟨0, ![]⟩
abbrev S16384x512 : Shape := ⟨2, ![16384, 512]⟩
abbrev S16384 : Shape := ⟨1, ![16384]⟩

class Facts : Prop where
  bcast_S_S1024 : S_.BroadcastsInDim S1024 (![] : Fin 0 → Fin S1024.rank)
  reducesTo_S1024_S_d0 : S1024.ReducesTo [0] S_
  h_S_ : 0 < S_.numel
  bcast_S_S512 : S_.BroadcastsInDim S512 (![] : Fin 0 → Fin S512.rank)
  reducesTo_S512_S_d0 : S512.ReducesTo [0] S_
  slices_S16384x1024_S16384x512_0_0 : S16384x1024.Slices ![0, 0] S16384x512
  reducesTo_S16384x512_S16384_d1 : S16384x512.ReducesTo [1] S16384
  bcast_S_S16384 : S_.BroadcastsInDim S16384 (![] : Fin 0 → Fin S16384.rank)
  reducesTo_S16384_S_d0 : S16384.ReducesTo [0] S_

variable [Facts]

def fn_part1 {F : FTy → Type} [FloatOps F] (main_v9 : IVec S_ 1) (main_v15 : IVec S_ 1) (main_v16 : FVec F S16384x512 .f32) : IVec S_ 1 :=
  let main_cst : FVec F S_ .f32 := constant S_ .f32 0x00000000#32
  let main_v17 : FVec F S16384 .f32 := (fun x v => Host.reduceAdd x v reducesTo_S16384x512_S16384_d1 h_S_) main_v16 main_cst
  let main_v18 : IVec S_ 1 := andi main_v9 main_v15
  let main_cst_6 : FVec F S_ .f32 := constant S_ .f32 0x00000000#32
  let main_v19 : FVec F S16384 .f32 := broadcastInDim S16384 ![] bcast_S_S16384 main_cst_6
  let main_v20 : IVec S16384 1 := cmpf .ogt main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v18 main_v21
  main_v22

def fn {F : FTy → Type} [FloatOps F] (main_arg0 : FVec F S16384x1024 .f32) (main_arg1 : FVec F S16384x1024 .f32) (main_arg2 : IVec S1024 1) (main_arg3 : IVec S1024 1) (main_arg4 : FVec F S16384x1 .f32) (main_arg5 : FVec F S16384x1 .f32) (main_arg6 : IVec S512 32) : IVec S_ 1 :=
  let main_v0 : IVec S1024 32 := iotaInDim S1024 32 0
  let main_c : IVec S_ 32 := constantI S_ 32 512#32
  let main_v1 : IVec S1024 32 := broadcastInDim S1024 ![] bcast_S_S1024 main_c
  let main_v2 : IVec S1024 1 := cmpi .slt main_v0 main_v1
  let main_v3 : IVec S1024 1 := cmpi .eq main_arg2 main_v2
  let main_c_0 : IVec S_ 1 := constantI S_ 1 1#1
  let main_v4 : IVec S_ 1 := (fun x v => Host.reduce IntOp.andi x v reducesTo_S1024_S_d0 h_S_) main_v3 main_c_0
  let main_c_1 : IVec S_ 32 := constantI S_ 32 512#32
  let main_v5 : IVec S1024 32 := broadcastInDim S1024 ![] bcast_S_S1024 main_c_1
  let main_v6 : IVec S1024 1 := cmpi .sge main_v0 main_v5
  let main_v7 : IVec S1024 1 := cmpi .eq main_arg3 main_v6
  let main_c_2 : IVec S_ 1 := constantI S_ 1 1#1
  let main_v8 : IVec S_ 1 := (fun x v => Host.reduce IntOp.andi x v reducesTo_S1024_S_d0 h_S_) main_v7 main_c_2
  let main_v9 : IVec S_ 1 := andi main_v4 main_v8
  let main_c_3 : IVec S_ 32 := constantI S_ 32 0#32
  let main_v10 : IVec S512 32 := broadcastInDim S512 ![] bcast_S_S512 main_c_3
  let main_v11 : IVec S512 1 := cmpi .sge main_arg6 main_v10
  let main_c_4 : IVec S_ 32 := constantI S_ 32 1024#32
  let main_v12 : IVec S512 32 := broadcastInDim S512 ![] bcast_S_S512 main_c_4
  let main_v13 : IVec S512 1 := cmpi .slt main_arg6 main_v12
  let main_v14 : IVec S512 1 := andi main_v11 main_v13
  let main_c_5 : IVec S_ 1 := constantI S_ 1 1#1
  let main_v15 : IVec S_ 1 := (fun x v => Host.reduce IntOp.andi x v reducesTo_S512_S_d0 h_S_) main_v14 main_c_5
  let main_v16 : FVec F S16384x512 .f32 := (extractStridedSlice S16384x512 ![0, 0] · slices_S16384x1024_S16384x512_0_0) main_arg1
  fn_part1 (F := F) main_v9 main_v15 main_v16
-- ==== Kernel.lean ====
abbrev S16384x1024 : Shape := ⟨2, ![16384, 1024]⟩
abbrev S1024 : Shape := ⟨1, ![1024]⟩
abbrev S16384x1 : Shape := ⟨2, ![16384, 1]⟩
abbrev S512 : Shape := ⟨1, ![512]⟩
abbrev S1x512 : Shape := ⟨2, ![1, 512]⟩
abbrev S1024x1024 : Shape := ⟨2, ![1024, 1024]⟩
abbrev S1024x1 : Shape := ⟨2, ![1024, 1]⟩
abbrev S1024x512 : Shape := ⟨2, ![1024, 512]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .i1⟩
  | .hbm, ⟨3, _⟩ => ⟨S1024, .i1⟩
  | .hbm, ⟨4, _⟩ => ⟨S16384x1, .f32⟩
  | .hbm, ⟨5, _⟩ => ⟨S16384x1, .f32⟩
  | .hbm, ⟨6, _⟩ => ⟨S512, .i32⟩
  | .hbm, ⟨7, _⟩ => ⟨S1x512, .i32⟩
  | .hbm, ⟨8, _⟩ => ⟨S16384x1024, .f32⟩
  | .local _ .vmem, ⟨0, _⟩ => ⟨S1x512, .i32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x1, .f32⟩
  | .local _ .vmem, ⟨9, _⟩ => ⟨S1024x1024, .f32⟩
  | .local _ .vmem, ⟨10, _⟩ => ⟨S1024x1024, .f32⟩
  | .local _ .vmem, ⟨11, _⟩ => ⟨S1024x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16384x1024 : Shape := ⟨2, ![16384, 1024]⟩
abbrev S1024 : Shape := ⟨1, ![1024]⟩
abbrev S16384x1 : Shape := ⟨2, ![16384, 1]⟩
abbrev S512 : Shape := ⟨1, ![512]⟩
abbrev S1x1024 : Shape := ⟨2, ![1, 1024]⟩
abbrev S_ : Shape := ⟨0, ![]⟩
abbrev S16384 : Shape := ⟨1, ![16384]⟩
abbrev S512x1 : Shape := ⟨2, ![512, 1]⟩
abbrev S1 : Shape := ⟨1, ![1]⟩
abbrev S1x1 : Shape := ⟨2, ![1, 1]⟩
abbrev S16384x512 : Shape := ⟨2, ![16384, 512]⟩
abbrev S1x16384x1x1 : Shape := ⟨4, ![1, 16384, 1, 1]⟩
abbrev S1x16384x512x1 : Shape := ⟨4, ![1, 16384, 512, 1]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024, .i1⟩
  | .hbm, ⟨3, _⟩ => ⟨S1024, .i1⟩
  | .hbm, ⟨4, _⟩ => ⟨S16384x1, .f32⟩
  | .hbm, ⟨5, _⟩ => ⟨S16384x1, .f32⟩
  | .hbm, ⟨6, _⟩ => ⟨S512, .i32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S_, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S_, .i32⟩
  | .hbm, ⟨30, _⟩ => ⟨S512, .i32⟩
  | .hbm, ⟨31, _⟩ => ⟨S512, .i1⟩
  | .hbm, ⟨32, _⟩ => ⟨S_, .i32⟩
  | .hbm, ⟨33, _⟩ => ⟨S512, .i32⟩
  | .hbm, ⟨34, _⟩ => ⟨S512, .i32⟩
  | .hbm, ⟨35, _⟩ => ⟨S512, .i32⟩
  | .hbm, ⟨36, _⟩ => ⟨S512x1, .i32⟩
  | .hbm, ⟨37, _⟩ => ⟨S1, .i32⟩
  | .hbm, ⟨38, _⟩ => ⟨S_, .i32⟩
  | .hbm, ⟨39, _⟩ => ⟨S512x1, .i32⟩
  | .hbm, ⟨40, _⟩ => ⟨S512x1, .i1⟩
  | .hbm, ⟨41, _⟩ => ⟨S1x1, .i32⟩
  | .hbm, ⟨42, _⟩ => ⟨S512x1, .i32⟩
  | .hbm, ⟨43, _⟩ => ⟨S512x1, .i1⟩
  | .hbm, ⟨44, _⟩ => ⟨S512x1, .i1⟩
  | .hbm, ⟨45, _⟩ => ⟨S_, .i1⟩
  | .hbm, ⟨46, _⟩ => ⟨S512, .i1⟩
  | .hbm, ⟨47, _⟩ => ⟨S16384x512, .f32⟩
  | .hbm, ⟨48, _⟩ => ⟨S16384x512, .i1⟩
  | .hbm, ⟨49, _⟩ => ⟨S_, .f32⟩
  | .hbm, ⟨50, _⟩ => ⟨S16384x512, .f32⟩
  | .hbm, ⟨51, _⟩ => ⟨S16384x512, .f32⟩
  | .hbm, ⟨52, _⟩ => ⟨S16384x1, .f32⟩
  | .hbm, ⟨53, _⟩ => ⟨S16384x1, .f32⟩
  | .hbm, ⟨54, _⟩ => ⟨S16384x512, .f32⟩
  | .hbm, ⟨55, _⟩ => ⟨S16384x512, .f32⟩
  | .hbm, ⟨56, _⟩ => ⟨S16384x1024, .f32⟩
  | .hbm, ⟨57, _⟩ => ⟨S1x1024, .f32⟩
  | .hbm, ⟨58, _⟩ => ⟨S16384x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S_, .f32⟩
  | .hbm, ⟨63, _⟩ => ⟨S16384, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | .hbm, ⟨68, _⟩ => ⟨S16384x1, .f32⟩
  | .hbm, ⟨69, _⟩ => ⟨S1x16384x1x1, .f32⟩
  | .hbm, ⟨70, _⟩ => ⟨S1x16384x512x1, .f32⟩
  | .hbm, ⟨71, _⟩ => ⟨S16384x512, .f32⟩
  | .hbm, ⟨72, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call1_c : Ref sig .tc := ⟨.hbm, 29, rfl⟩
abbrev main_call1_v0 : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_v5 : Ref sig .tc := ⟨.hbm, 36, rfl⟩
abbrev main_call1_c_1 : Ref sig .tc := ⟨.hbm, 37, rfl⟩
abbrev main_call1_c_2 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_3 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_call1_cst : Ref sig .tc := ⟨.hbm, 49, rfl⟩
abbrev main_call1_v15 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_cst_3 : Ref sig .tc := ⟨.hbm, 62, rfl⟩
abbrev main_v30 : Ref sig .tc := ⟨.hbm, 63, rfl⟩
abbrev main_v31 : Ref sig .tc := ⟨.hbm, 64, rfl⟩
abbrev main_cst_4 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩

abbrev nD : Nat := 1
abbrev τ : Topo := Topo.v7x

variable {F : FTy → Type} [FloatOps F]
-- ==== Proof.Algebra.lean ====
/-
  The arithmetic of one grain's row on the extended reals, with no program in it.

  A row holds 1024 rates and 1024 abundances; species 0–511 live on the surface, species 512–1023 in the mantle. The
  reference selects a half by multiplying with a mask of zeros and ones and summing all 1024 terms; the kernel sums the
  half itself. The reference divides every rate by the number of mantle layers (at least one) before using it; the
  kernel multiplies by the reciprocal afterwards. This file proves these ways of computing equal.

  The extended reals do not distribute in general (`⊤ + ⊥ = ⊥`), but a factor that is nonnegative and not `⊤` does, and
  both factors that the kernel moves out of a sum are of that kind: the reciprocal of a number at least 1, and the
  reciprocal of a positive number. So no entry of the row has to be finite.
-/
module

public import Idealize.ShloMosaic.PureOps.Ideal
public import Mathlib.Data.EReal.Inv
public import Mathlib.Algebra.BigOperators.Fin

@[expose] public section

noncomputable section

open scoped BigOperators

namespace Cert.Row

open Idealize.ShloMosaic

/-! ## The two halves of a row -/

/-- The position of surface species `k` in a row. -/
abbrev lo (k : Fin 512) : Fin 1024 := ⟨k.val, by have := k.isLt; omega⟩
/-- The position of mantle species `k` in a row. -/
abbrev hi (k : Fin 512) : Fin 1024 := ⟨512 + k.val, by have := k.isLt; omega⟩

/-- The sum of a row's surface half. -/
def surf (y : Fin 1024 → EReal) : EReal := ∑ k : Fin 512, y (lo k)
/-- The sum of a row's mantle half. -/
def mant (y : Fin 1024 → EReal) : EReal := ∑ k : Fin 512, y (hi k)

/-- A sum over a row is the sum of its surface half plus the sum of its mantle half. -/
theorem sum_eq_surf_add_mant (y : Fin 1024 → EReal) : ∑ k : Fin 1024, y k = surf y + mant y :=
  Fin.sum_univ_add (a := 512) (b := 512) y

/-- The surface mask: one at the surface species, zero at the others. -/
def surfMask (k : Fin 1024) : EReal := if k.val < 512 then 1 else 0
/-- The mantle mask: one at the mantle species, zero at the others. -/
def mantMask (k : Fin 1024) : EReal := if 512 ≤ k.val then 1 else 0

/-- The surface mask is one at a surface species. -/
theorem surfMask_lo (k : Fin 512) : surfMask (lo k) = 1 := if_pos k.isLt
/-- The surface mask is zero at a mantle species. -/
theorem surfMask_hi (k : Fin 512) : surfMask (hi k) = 0 := if_neg (by show ¬(512 + k.val < 512); omega)
/-- The mantle mask is zero at a surface species. -/
theorem mantMask_lo (k : Fin 512) : mantMask (lo k) = 0 := if_neg (by show ¬(512 ≤ k.val); have := k.isLt; omega)
/-- The mantle mask is one at a mantle species. -/
theorem mantMask_hi (k : Fin 512) : mantMask (hi k) = 1 := if_pos (by show 512 ≤ 512 + k.val; omega)

/-- Summing a row under the surface mask sums its surface half. -/
theorem sum_surfMask (y : Fin 1024 → EReal) : ∑ k : Fin 1024, y k * surfMask k = surf y := by
  rw [sum_eq_surf_add_mant]
  simp only [surf, mant, surfMask_lo, surfMask_hi, mul_one, mul_zero, Finset.sum_const_zero, add_zero]

/-- Summing a row under the mantle mask sums its mantle half. -/
theorem sum_mantMask (y : Fin 1024 → EReal) : ∑ k : Fin 1024, y k * mantMask k = mant y := by
  rw [sum_eq_surf_add_mant]
  simp only [surf, mant, mantMask_lo, mantMask_hi, mul_one, mul_zero, Finset.sum_const_zero, zero_add]

/-- A product with a one-hot column is the entry it points at. -/
theorem sum_oneHot (r : Fin 1024 → EReal) (q : Fin 1024) :
    ∑ k : Fin 1024, r k * (if k = q then 1 else 0) = r q := by
  simp only [mul_ite, mul_one, mul_zero, Finset.sum_ite_eq', Finset.mem_univ, if_true]

/-! ## Division by a positive number -/

/-- Division by a positive number multiplies by its reciprocal. -/
theorem div_of_pos (x : EReal) {d : EReal} (hd : 0 < d) : Ideal.div x d = x * d⁻¹ := if_neg hd.ne'

/-- A nonnegative factor other than `⊤` moves out of any finite sum. -/
theorem sum_mul {ι : Type} (s : Finset ι) (f : ι → EReal) {a : EReal} (h0 : 0 ≤ a) (ht : a ≠ ⊤) :
    ∑ k ∈ s, f k * a = (∑ k ∈ s, f k) * a := by
  classical
  induction s using Finset.induction_on with
  | empty => simp only [Finset.sum_empty, zero_mul]
  | insert k s hk ih =>
    rw [Finset.sum_insert hk, Finset.sum_insert hk, ih, EReal.right_distrib_of_nonneg_of_ne_top h0 ht]

/-- The number of mantle layers of a row: the mantle total in units of a layer (`L` layers per unit), at least one. -/
def layers (L : EReal) (y : Fin 1024 → EReal) : EReal := max (mant y * L) 1

/-- The number of layers is positive. -/
theorem layers_pos (L : EReal) (y : Fin 1024 → EReal) : 0 < layers L y :=
  lt_of_lt_of_le zero_lt_one (le_max_right _ _)

/-- Dividing a rate by the layers is multiplying it by the reciprocal of the layers. -/
theorem div_layers (L x : EReal) (y : Fin 1024 → EReal) :
    Ideal.div x (layers L y) = x * Ideal.div 1 (layers L y) := by
  rw [div_of_pos _ (layers_pos L y), div_of_pos _ (layers_pos L y), one_mul]

/-- The mantle column: the reference's masked sum of scaled rates times abundances over the surface total equals the
    kernel's sum over the mantle half, scaled and divided once. Only the surface total has to be positive. -/
theorem mantle_sum (L : EReal) (r y : Fin 1024 → EReal) (hs : 0 < surf y) :
    ∑ k : Fin 1024, Ideal.div (Ideal.div (r k) (layers L y) * y k * mantMask k) (surf y)
      = Ideal.div (mant (fun k => r k * y k) * Ideal.div 1 (layers L y)) (surf y) := by
  have hd := layers_pos L y
  have hterm : ∀ k, Ideal.div (Ideal.div (r k) (layers L y) * y k * mantMask k) (surf y)
      = r k * y k * mantMask k * (layers L y)⁻¹ * (surf y)⁻¹ := fun k => by
    rw [div_of_pos _ hs, div_of_pos _ hd]
    simp only [mul_assoc, mul_comm, mul_left_comm]
  simp only [hterm]
  rw [sum_mul _ _ (EReal.inv_nonneg_of_nonneg hs.le) (EReal.inv_lt_top _).ne,
    sum_mul _ _ (EReal.inv_nonneg_of_nonneg hd.le) (EReal.inv_lt_top _).ne,
    sum_mantMask (fun k => r k * y k), div_of_pos _ hs, div_of_pos _ hd, one_mul]

end Cert.Row

end
-- ==== Proof.Payload.lean ====
/-
  What the kernel's body computes from the blocks it loads, element by element, at the exact instance.

  A block is 1024 rows of 1024 rates (`r`) and abundances (`y`), one gain and one loss per row, and the one-hot matrix
  `w` that point 0 builds from the 512 indices. The left half of the output block is the product `r · w` scaled by the
  reciprocal of the row's layers plus the row's loss term (`leftHalf_apply`); the right half is one number per row
  (`rightHalf_apply`); the matrix has a one where the row number is the column's index (`oneHot_apply`).
-/
module

public import proofs.«01_k».proof.Proof.Algebra
public import proofs.«01_k».proof.Proof.Gen.KernelIdeal.Skeleton
public import Idealize.ShloMosaic.Lib.Pipeline.Value
public import Idealize.ShloMosaic.Lib.MatmulPlain
public import Idealize.ShloMosaic.Lib.IdealHost
public import Idealize.ShloMosaic.Lib.ValueIdx
public import Idealize.ShloMosaic.Lib.WordCmp

@[expose] public section

noncomputable section

open scoped BigOperators

namespace Cert.Payload

open Cert.KernelIdeal Cert.KernelIdeal.Gen Cert.Row
open Idealize.ShloMosaic Idealize.ShloMosaic.ValueIdx

/-- Row `a` of a block, as a function of the species. -/
abbrev row (v : Vec Ideal S1024x1024 .f32) (a : Fin 1024) : Fin 1024 → EReal := fun k => v (ix2 a k)

/-- Layers per unit of mantle abundance: the factor the program multiplies the mantle total by. -/
abbrev layerFactor : EReal := Ideal.ofBits .f32 0x38D1B717#32
/-- The factor the program multiplies a row's gain by. -/
abbrev gainFactor : EReal := Ideal.ofBits .f32 0x3851B717#32

/-- The left half of a block, cut out, holds the surface species. -/
theorem slice_lo (v : Vec Ideal S1024x1024 .f32) (a : Fin 1024) (k : Fin 512) :
    extractStridedSlice S1024x512 ![0, 0] v slices_S1024x1024_o0_0_S1024x512 (ix2 a k) = v (ix2 a (lo k)) :=
  extractStridedSlice_apply _ v _ _ _ fun b => by
    match b with
    | ⟨0, _⟩ => show a.val = 0 + a.val; omega
    | ⟨1, _⟩ => show k.val = 0 + k.val; omega

/-- The right half of a block, cut out, holds the mantle species. -/
theorem slice_hi (v : Vec Ideal S1024x1024 .f32) (a : Fin 1024) (k : Fin 512) :
    extractStridedSlice S1024x512 ![0, 512] v slices_S1024x1024_o0_512_S1024x512 (ix2 a k) = v (ix2 a (hi k)) :=
  extractStridedSlice_apply _ v _ _ _ fun b => by
    match b with
    | ⟨0, _⟩ => show a.val = 0 + a.val; omega
    | ⟨1, _⟩ => rfl

/-- A half block summed along its rows, as a column: each entry is the sum of its row. -/
theorem column_sum (v : FVec Ideal S1024x512 .f32) (a : Fin 1024) :
    shapeCast S1024x1 (multiReduction .add [1] S1024 v 0x00000000#32 reduces_S1024x512_S1024 (.inl rfl) rfl)
      shapeCasts_S1024_S1024x1 (ix2 a 0) = ∑ k : Fin 512, v (ix2 a k) := by
  rw [shapeCast_apply _ shapeCasts_S1024_S1024x1 (ix2 a 0) (ix1 a)
    (by rw [Shape.rowMajor_val_one, Shape.rowMajor_val_two]; show a.val = a.val * 1 + 0; omega)]
  refine (Ideal.multiReduction_add_single v _ _ _ _ _).trans ?_
  refine Finset.sum_congr rfl fun k _ => congrArg v (funext fun b => Fin.ext ?_)
  match b with
  | ⟨0, _⟩ => rfl
  | ⟨1, _⟩ => rfl

/-- A column broadcast along the rows reads its entry everywhere in the row. -/
theorem broadcast_column (v : FVec Ideal S1024x1 .f32) (a : Fin 1024) (j : Fin 512) :
    broadcastTo S1024x512 v broadcasts_S1024x1_S1024x512 (ix2 a j) = v (ix2 a 0) :=
  broadcastTo_apply v _ _ _ fun b => by
    match b with
    | ⟨0, _⟩ => rfl
    | ⟨1, _⟩ => rfl

/-- The mantle total of a row of abundances. -/
theorem pay4_apply (y : Vec Ideal S1024x1024 .f32) (a : Fin 1024) : k0_pay4 y (ix2 a 0) = mant (row y a) := by
  unfold k0_pay4 k0_pay3
  refine (column_sum _ a).trans (Finset.sum_congr rfl fun k _ => slice_hi y a k)

/-- The surface total of a row of abundances. -/
theorem pay5_apply (y : Vec Ideal S1024x1024 .f32) (a : Fin 1024) : k0_pay5 y (ix2 a 0) = surf (row y a) := by
  unfold k0_pay5
  refine (column_sum _ a).trans (Finset.sum_congr rfl fun k _ => slice_lo y a k)

/-- The mantle total of a row of rates times abundances. -/
theorem pay6_apply (r y : Vec Ideal S1024x1024 .f32) (a : Fin 1024) :
    k0_pay6 r y (ix2 a 0) = mant (fun k => row r a k * row y a k) := by
  unfold k0_pay6 k0_pay3
  refine (column_sum _ a).trans (Finset.sum_congr rfl fun k _ => ?_)
  rw [mulf_apply, slice_hi, slice_hi]

/-- The reciprocal of a row's layers. -/
theorem pay7_apply (y : Vec Ideal S1024x1024 .f32) (a : Fin 1024) :
    k0_pay7 y (ix2 a 0) = Ideal.div 1 (layers layerFactor (row y a)) := by
  unfold k0_pay7
  show Ideal.div (Ideal.ofBits .f32 0x3F800000#32)
    (max (k0_pay4 y (ix2 a 0) * layerFactor) (Ideal.ofBits .f32 0x3F800000#32)) = _
  rw [pay4_apply, Ideal.ofBits_one_f32]
  rfl

/-- The left half of the output block: the product with the one-hot matrix, scaled, plus the loss term. -/
theorem leftHalf_apply (r y : Vec Ideal S1024x1024 .f32) (w : Vec Ideal S1024x512 .bf16) (l : Vec Ideal S1024x1 .f32)
    (a : Fin 1024) (j : Fin 512) :
    k0_pay8 r y w l (ix2 a j)
      = (∑ k : Fin 1024, row r a k * w (ix2 k j)) * Ideal.div 1 (layers layerFactor (row y a))
        + Ideal.div (l (ix2 a 0)) (max (surf (row y a)) (mant (row y a))) := by
  unfold k0_pay8
  show FloatOps.matmul (DotDims.plain 1024 1024 512) none (truncf .bf16 r bitsLt_bf16_f32) w
      (constant S1024x512 .f32 0x00000000#32) (ix2 a j)
      * broadcastTo S1024x512 (k0_pay7 y) broadcasts_S1024x1_S1024x512 (ix2 a j)
    + broadcastTo S1024x512 (divf l (maximumf (k0_pay5 y) (k0_pay4 y))) broadcasts_S1024x1_S1024x512 (ix2 a j) = _
  rw [Ideal.matmul_plain_apply, broadcast_column, broadcast_column, pay7_apply, divf_apply, maximumf_apply, pay5_apply,
    pay4_apply, constant_apply, Ideal.ofBits_zero_f32, zero_add]
  rfl

/-- The right half of the output block: the gain term plus the scaled mantle sum over the surface total. -/
theorem rightHalf_apply (r y : Vec Ideal S1024x1024 .f32) (g : Vec Ideal S1024x1 .f32) (a : Fin 1024) (j : Fin 512) :
    k0_pay1 (k0_pay5 y) (k0_pay6 r y) (k0_pay7 y) (k0_pay9 g) (ix2 a j)
      = g (ix2 a 0) * gainFactor
        + Ideal.div (mant (fun k => row r a k * row y a k) * Ideal.div 1 (layers layerFactor (row y a)))
            (surf (row y a)) := by
  unfold k0_pay1 k0_pay9
  dsimp only
  rw [broadcast_column, shapeCast_self]
  show g (ix2 a 0) * gainFactor + Ideal.div (k0_pay6 r y (ix2 a 0) * k0_pay7 y (ix2 a 0)) (k0_pay5 y (ix2 a 0)) = _
  rw [pay6_apply, pay7_apply, pay5_apply]

/-- The one-hot matrix: one where the row number is the column's index, zero elsewhere. -/
theorem oneHot_apply (x : Vec Ideal S1x512 .i32) (k : Fin 1024) (j : Fin 512) :
    k0_pay2 (F := Ideal) x (ix2 k j) = if BitVec.ofNat 32 k.val = x (ix2 0 j) then 1 else 0 := by
  unfold k0_pay2
  dsimp only
  rw [shapeCast_self, shapeCast_self]
  show ((((IntOp.cmpi .eq (iota .tc S1024x512 32 [0] iota_S1024x512_d0_w32 (ix2 k j))
    (broadcastTo S1024x512 x broadcasts_S1x512_S1024x512 (ix2 k j))).setWidth 32).toInt : ℝ) : EReal) = _
  rw [broadcastTo_apply x broadcasts_S1x512_S1024x512 (ix2 k j) (ix2 0 j) fun b => by
    match b with
    | ⟨0, _⟩ => rfl
    | ⟨1, _⟩ => rfl]
  rw [show iota .tc S1024x512 32 [0] iota_S1024x512_d0_w32 (ix2 k j) = BitVec.ofNat 32 k.val from by
    show BitVec.ofNat 32 (0 * 1024 + k.val) = _
    rw [Nat.zero_mul, Nat.zero_add]]
  rw [WordCmp.cmpi_eq_eq]
  by_cases h : BitVec.ofNat 32 k.val = x (ix2 0 j)
  · rw [if_pos h, decide_eq_true h]
    show (((1#32 : BitVec 32).toInt : ℝ) : EReal) = 1
    norm_num
  · rw [if_neg h, decide_eq_false h]
    show (((0#32 : BitVec 32).toInt : ℝ) : EReal) = 0
    norm_num

end Cert.Payload

end
-- ==== Proof.Block.lean ====
/-
  What one grid point leaves in the output's staging buffer and in the carried scratch, as functions of the blocks it
  loads: the generated run's stores read back as values (`out_A`, `out_B`, `scratch_A`), and the carried scratch after
  every point, which is the one-hot matrix built at point 0 (`scratch_eq`).
-/
module

public import proofs.«01_k».proof.Proof.Payload
public import proofs.«01_k».proof.Proof.Gen.KernelIdeal.Value
public import Idealize.ShloMosaic.Lib.Pipeline.Value
public import Idealize.ShloMosaic.Lib.Tactic

@[expose] public section

noncomputable section

namespace Cert.Block

open Cert.KernelIdeal Cert.KernelIdeal.Gen Cert.KernelIdeal.Value
open Idealize.ShloMosaic Idealize.ShloMosaic.TcCoe Idealize.ShloMosaic.ValueIdx

variable {F : FTy → Type} [FloatOps F]
variable (m : (ℓ : Loc nD τ sig) → Buf (Elt F) ℓ)

/-- Zero offsets, spelled as the stores and loads spell them, are the constant zero function. -/
theorem zero_offsets : (![0, 0] : Fin 2 → Nat) = fun _ => 0 := funext fun a => by fin_cases a <;> rfl

/-- Two half blocks side by side. -/
def join (L R : Vec F S1024x512 .f32) : Vec F S1024x1024 .f32 := fun i =>
  if h : (i 1).val < 512 then L (ix2 ⟨(i 0).val, idx2_lt0 i⟩ ⟨(i 1).val, h⟩)
  else R (ix2 ⟨(i 0).val, idx2_lt0 i⟩ ⟨(i 1).val - 512, by have := idx2_lt1 i; omega⟩)

/-- A left-half element of the two halves side by side. -/
theorem join_lo (L R : Vec F S1024x512 .f32) (a : Fin 1024) (j : Fin 512) : join L R (ix2 a (Row.lo j)) = L (ix2 a j) := by
  unfold join
  exact dif_pos (show (Row.lo j).val < 512 from j.isLt)

/-- A right-half element of the two halves side by side. -/
theorem join_hi (L R : Vec F S1024x512 .f32) (a : Fin 1024) (j : Fin 512) : join L R (ix2 a (Row.hi j)) = R (ix2 a j) := by
  unfold join
  refine (dif_neg (show ¬ 512 + j.val < 512 by omega)).trans (congrArg R (funext fun b => Fin.ext ?_))
  match b with
  | ⟨0, _⟩ => rfl
  | ⟨1, _⟩ => show 512 + j.val - 512 = j.val; omega

/-- The two stores of a point, of the left half and then of the right half, leave the two halves side by side. -/
theorem canon_halves (L R : Vec F S1024x512 .f32) (hL : ∀ a, (![0, 0] : Fin 2 → Nat) a + S1024x512.size a ≤ S1024x1024.size a)
    (hR : ∀ a, (![0, 512] : Fin 2 → Nat) a + S1024x512.size a ≤ S1024x1024.size a) :
    View.canon [(⟨Rect.unit (s := S1024x1024) ![0, 512] S1024x512.size hR, R⟩ : View.Piece (Elt F) S1024x1024 .f32),
      ⟨Rect.unit (s := S1024x1024) ![0, 0] S1024x512.size hL, L⟩] = join L R := by
  funext i
  obtain ⟨a, b, rfl⟩ : ∃ a b, i = ix2 a b := ⟨_, _, eq_ix2 i⟩
  refine View.canon_apply_of_pieces _ _ ?_ _ ?_
  · intro p hp x
    simp only [List.mem_cons, List.not_mem_nil, or_false] at hp
    rcases hp with rfl | rfl
    · obtain ⟨u, v, rfl⟩ : ∃ (u : Fin 1024) (v : Fin 512), x = ix2 u v := ⟨_, _, eq_ix2 x⟩
      refine ((congrArg (join L R) (?_ : _ = ix2 u (Row.hi v))).trans (join_hi L R u v)).symm
      funext d; apply Fin.ext
      match d with
      | ⟨0, _⟩ => show 0 + 1 * u.val = u.val; omega
      | ⟨1, _⟩ => show 512 + 1 * v.val = 512 + v.val; omega
    · obtain ⟨u, v, rfl⟩ : ∃ (u : Fin 1024) (v : Fin 512), x = ix2 u v := ⟨_, _, eq_ix2 x⟩
      refine ((congrArg (join L R) (?_ : _ = ix2 u (Row.lo v))).trans (join_lo L R u v)).symm
      funext d; apply Fin.ext
      match d with
      | ⟨0, _⟩ => show 0 + 1 * u.val = u.val; omega
      | ⟨1, _⟩ => show 0 + 1 * v.val = v.val; omega
  · by_cases hb : b.val < 512
    · refine ⟨_, List.mem_cons_of_mem _ List.mem_cons_self, (Rect.mem_set_unit (inb := hL)).mpr fun d => ?_⟩
      match d with
      | ⟨0, _⟩ => show 0 ≤ a.val ∧ a.val < 0 + 1024; omega
      | ⟨1, _⟩ => show 0 ≤ b.val ∧ b.val < 0 + 512; omega
    · refine ⟨_, List.mem_cons_self, (Rect.mem_set_unit (inb := hR)).mpr fun d => ?_⟩
      match d with
      | ⟨0, _⟩ => show 0 ≤ a.val ∧ a.val < 0 + 1024; omega
      | ⟨1, _⟩ => show 512 ≤ b.val ∧ b.val < 512 + 512; omega

/-- The output block of a point, from its rates, abundances, one-hot matrix, gains and losses. -/
def outBlock (r y : Vec F S1024x1024 .f32) (w : Vec F S1024x512 .bf16) (g l : Vec F S1024x1 .f32) : Vec F S1024x1024 .f32 :=
  join (k0_pay8 r y w l) (k0_pay1 (k0_pay5 y) (k0_pay6 r y) (k0_pay7 y) (k0_pay9 g))

/-- A point other than the first leaves the output block of its loads, at the one-hot matrix the scratch held. -/
theorem out_B (c : Dev nD) (i : grid0.Coords) (a1 : Memref sig .tc .vmem S1x512 .i32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1024 .f32) (h6 : a6.IsWhole) (a7 : Memref sig .tc .vmem S1024x512 .bf16) (h7 : a7.IsWhole)
    (hc : ¬cond0_0 i) (x : Vec F S1x512 .i32) (r y : Vec F S1024x1024 .f32) (g l : Vec F S1024x1 .f32)
    (w : Vec F S1024x512 .bf16) :
    out0_B_5 c i a1 h1 a2 h2 a3 h3 a4 h4 a5 h5 a6 h6 a7 h7 hc x r y g l w = outBlock r y w g l := by
  unfold out0_B_5
  rw [View.read_writes_eq_canon _ _ _ (cover0_B_5 c i a1 h1 a2 h2 a3 h3 a4 h4 a5 h5 a6 h6 a7 h7 hc x r y g l w)]
  unfold kernelRun0_B
  dsimp only
  sl_unfold_words
  rw [canon_halves]
  unfold outBlock
  simp only [View.readAt_eq_ld, h2.read_unread, h3.read_unread, h4.read_unread, h5.read_unread, h7.read_unread,
    View.ld_unit_zero (S := S1024x1024) zero_offsets, View.ld_unit_zero (S := S1024x1) zero_offsets,
    View.ld_unit_zero (S := S1024x512) zero_offsets]

/-- The first point leaves the output block of its loads, at the one-hot matrix it has just built from the indices. -/
theorem out_A (c : Dev nD) (i : grid0.Coords) (a1 : Memref sig .tc .vmem S1x512 .i32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1024 .f32) (h6 : a6.IsWhole) (a7 : Memref sig .tc .vmem S1024x512 .bf16) (h7 : a7.IsWhole)
    (hc : cond0_0 i) (x : Vec F S1x512 .i32) (r y : Vec F S1024x1024 .f32) (g l : Vec F S1024x1 .f32) :
    out0_A_5 c i a1 h1 a2 h2 a3 h3 a4 h4 a5 h5 a6 h6 a7 h7 hc x r y g l = outBlock r y (k0_pay2 x) g l := by
  unfold out0_A_5
  rw [View.read_writes_eq_canon _ _ _ (cover0_A_5 c i a1 h1 a2 h2 a3 h3 a4 h4 a5 h5 a6 h6 a7 h7 hc x r y g l)]
  unfold kernelRun0_A
  dsimp only
  sl_unfold_words
  rw [canon_halves]
  unfold outBlock
  simp only [View.readCov_unit_zero (S := S1024x512) _ zero_offsets, View.readAt_eq_ld, h1.read_unread, h2.read_unread,
    h3.read_unread, h4.read_unread, h5.read_unread, View.ld_unit_zero (S := S1024x1024) zero_offsets,
    View.ld_unit_zero (S := S1024x1) zero_offsets, View.ld_unit_zero (S := S1x512) zero_offsets]

/-- The first point leaves the one-hot matrix of the indices in the scratch. -/
theorem scratch_A (c : Dev nD) (i : grid0.Coords) (a1 : Memref sig .tc .vmem S1x512 .i32) (h1 : a1.IsWhole)
    (a2 : Memref sig .tc .vmem S1024x1024 .f32) (h2 : a2.IsWhole) (a3 : Memref sig .tc .vmem S1024x1024 .f32) (h3 : a3.IsWhole)
    (a4 : Memref sig .tc .vmem S1024x1 .f32) (h4 : a4.IsWhole) (a5 : Memref sig .tc .vmem S1024x1 .f32) (h5 : a5.IsWhole)
    (a6 : Memref sig .tc .vmem S1024x1024 .f32) (h6 : a6.IsWhole) (a7 : Memref sig .tc .vmem S1024x512 .bf16) (h7 : a7.IsWhole)
    (hc : cond0_0 i) (x : Vec F S1x512 .i32) (r y : Vec F S1024x1024 .f32) (g l : Vec F S1024x1 .f32) :
    sout0_A_0 c i a1 h1 a2 h2 a3 h3 a4 h4 a5 h5 a6 h6 a7 h7 hc x r y g l = k0_pay2 x := by
  unfold sout0_A_0
  rw [View.read_writes_eq_canon _ _ _ (scover0_A_0 c i a1 h1 a2 h2 a3 h3 a4 h4 a5 h5 a6 h6 a7 h7 hc x r y g l)]
  unfold kernelRun0_A
  dsimp only
  sl_unfold_words
  rw [View.canon_unit_zero (S := S1024x512) zero_offsets]
  simp only [View.readAt_eq_ld, h1.read_unread, View.ld_unit_zero (S := S1x512) zero_offsets]

/-- The indices as the first point finds them. -/
abbrev indices (c : Dev nD) : Vec F S1x512 .i32 := iblk m c 0 ⟨0, by rw [show cfg0.N = 16 from N_0]; decide⟩

/-- After every point the carried scratch is the one-hot matrix of the indices: the first point builds it, no later
    point writes it. -/
theorem scratch_eq (c : Dev nD) : ∀ (n : ℕ) (hn : n < cfg0.N), (outsAt0 m c n hn).2 = k0_pay2 (indices m c)
  | 0, hn => by
    rw [outsAt0_A m c ⟨0, hn⟩ rfl]
    dsimp only
    exact scratch_A (F := F) ..
  | n + 1, hn => by
    have hN : cfg0.N = 16 := N_0
    have hB : ¬(⟨n + 1, hn⟩ : Fin cfg0.N).val % 16 = 0 := by dsimp only; omega
    rw [outsAt0_B m c ⟨n + 1, hn⟩ hB]
    exact scratch_eq c n (Nat.lt_of_succ_lt hn)

/-- After every point the output's staging buffer holds the output block of that point's loads, at the one-hot matrix
    of the indices. -/
theorem out_eq (c : Dev nD) (t : Fin cfg0.N) :
    (outsAt0 m c t.val t.isLt).1
      = outBlock (iblk m c 1 t) (iblk m c 2 t) (k0_pay2 (indices m c)) (iblk m c 3 t) (iblk m c 4 t) := by
  have hN : cfg0.N = 16 := N_0
  by_cases h0 : t.val % 16 = 0
  · have hpos : 0 < cfg0.N := by rw [hN]; decide
    obtain rfl : t = ⟨0, hpos⟩ := Fin.ext (by have := t.isLt; dsimp only; omega)
    rw [outsAt0_A m c _ h0]
    dsimp only
    exact out_A (F := F) ..
  · rw [outsAt0_B m c t h0]
    dsimp only
    refine (out_B (F := F) ..).trans ?_
    rw [scratch_eq]

end Cert.Block

end
-- ==== Proof.Array.lean ====
/-
  The kernel's result array, element by element, in terms of the argument arrays: grid point `t` computes rows
  `1024·t … 1024·t + 1023`, so an element of row `i` comes from point `i / 1024` and depends on row `i` alone.
-/
module

public import proofs.«01_k».proof.Proof.Block

@[expose] public section

noncomputable section

open scoped BigOperators

namespace Cert.Array

open Cert.KernelIdeal Cert.KernelIdeal.Gen Cert.KernelIdeal.Value Cert.Block Cert.Payload Cert.Row
open Idealize.ShloMosaic Idealize.ShloMosaic.TcCoe Idealize.ShloMosaic.ValueIdx

variable (m : (ℓ : Loc nD τ sig) → Buf (Elt Ideal) ℓ)

/-- The array of rates on device `c`. -/
abbrev rates (c : Dev nD) : FVec Ideal S16384x1024 .f32 := m ((c : Thread nD τ).loc main_arg0)
/-- The array of abundances. -/
abbrev abundances (c : Dev nD) : FVec Ideal S16384x1024 .f32 := m ((c : Thread nD τ).loc main_arg1)
/-- The column of gains. -/
abbrev gains (c : Dev nD) : FVec Ideal S16384x1 .f32 := m ((c : Thread nD τ).loc main_arg4)
/-- The column of losses. -/
abbrev losses (c : Dev nD) : FVec Ideal S16384x1 .f32 := m ((c : Thread nD τ).loc main_arg5)
/-- The indices of the species whose rates the left half takes. -/
abbrev species (c : Dev nD) : IVec S512 32 := m ((c : Thread nD τ).loc main_arg6)

/-! ## The blocks a point loads -/

/-- Where each input window stands: the rates', abundances', gains' and losses' at block `t`, the indices' always at
    block 0. -/
theorem window_index : ∀ t : Fin cfg0.N,
    (win0_1.index t 0 = t.val ∧ win0_1.index t 1 = 0) ∧ (win0_2.index t 0 = t.val ∧ win0_2.index t 1 = 0)
    ∧ (win0_3.index t 0 = t.val ∧ win0_3.index t 1 = 0) ∧ (win0_4.index t 0 = t.val ∧ win0_4.index t 1 = 0)
    ∧ win0_0.index t 0 = 0 ∧ win0_0.index t 1 = 0 :=
  (by decide +kernel : ∀ t : Fin grid0.N, _)

/-- Row `a` of block `t` is row `1024·t + a` of the array: `i`, when that is `i`'s number. -/
theorem rates_block (c : Dev nD) (t : Fin cfg0.N) (a : Fin 1024) (i : Fin 16384) (hi : i.val = t.val * 1024 + a.val)
    (k : Fin 1024) : (iblk m c 1 t : Vec Ideal S1024x1024 .f32) (ix2 a k) = rates m c (ix2 i k) := by
  obtain ⟨⟨e0, e1⟩, -⟩ := window_index t
  unfold iblk
  rw [View.read_apply]
  refine (congrFun (V_main_arg0 m c) _).trans (congrArg (rates m c) (funext fun b => Fin.ext ?_))
  match b with
  | ⟨0, _⟩ => show win0_1.index t 0 * 1024 + 1 * a.val = i.val; rw [e0, hi]; omega
  | ⟨1, _⟩ => show win0_1.index t 1 * 1024 + 1 * k.val = k.val; rw [e1]; omega

/-- The same of the abundances. -/
theorem abundances_block (c : Dev nD) (t : Fin cfg0.N) (a : Fin 1024) (i : Fin 16384)
    (hi : i.val = t.val * 1024 + a.val) (k : Fin 1024) :
    (iblk m c 2 t : Vec Ideal S1024x1024 .f32) (ix2 a k) = abundances m c (ix2 i k) := by
  obtain ⟨-, ⟨e0, e1⟩, -⟩ := window_index t
  unfold iblk
  rw [View.read_apply]
  refine (congrFun (V_main_arg1 m c) _).trans (congrArg (abundances m c) (funext fun b => Fin.ext ?_))
  match b with
  | ⟨0, _⟩ => show win0_2.index t 0 * 1024 + 1 * a.val = i.val; rw [e0, hi]; omega
  | ⟨1, _⟩ => show win0_2.index t 1 * 1024 + 1 * k.val = k.val; rw [e1]; omega

/-- The same of the gains. -/
theorem gains_block (c : Dev nD) (t : Fin cfg0.N) (a : Fin 1024) (i : Fin 16384) (hi : i.val = t.val * 1024 + a.val) :
    (iblk m c 3 t : Vec Ideal S1024x1 .f32) (ix2 a 0) = gains m c (ix2 i 0) := by
  obtain ⟨-, -, ⟨e0, e1⟩, -⟩ := window_index t
  unfold iblk
  rw [View.read_apply]
  refine (congrFun (V_main_arg4 m c) _).trans (congrArg (gains m c) (funext fun b => Fin.ext ?_))
  match b with
  | ⟨0, _⟩ => show win0_3.index t 0 * 1024 + 1 * a.val = i.val; rw [e0, hi]; omega
  | ⟨1, _⟩ => show win0_3.index t 1 * 1 + 1 * 0 = 0; rw [e1]

/-- The same of the losses. -/
theorem losses_block (c : Dev nD) (t : Fin cfg0.N) (a : Fin 1024) (i : Fin 16384) (hi : i.val = t.val * 1024 + a.val) :
    (iblk m c 4 t : Vec Ideal S1024x1 .f32) (ix2 a 0) = losses m c (ix2 i 0) := by
  obtain ⟨-, -, -, ⟨e0, e1⟩, -⟩ := window_index t
  unfold iblk
  rw [View.read_apply]
  refine (congrFun (V_main_arg5 m c) _).trans (congrArg (losses m c) (funext fun b => Fin.ext ?_))
  match b with
  | ⟨0, _⟩ => show win0_4.index t 0 * 1024 + 1 * a.val = i.val; rw [e0, hi]; omega
  | ⟨1, _⟩ => show win0_4.index t 1 * 1 + 1 * 0 = 0; rw [e1]

/-- The region finds the indices laid out as one row. -/
theorem indices_row (c : Dev nD) :
    (V m c main_v0 : IVec S1x512 32) = shapeCast S1x512 (species m c) shapeCasts_S512_S1x512 := by
  show StableHlo.after hostOps0 (fun b => m (c, b)) (Proc.devRef .tc main_v0) = _
  unfold hostOps0
  simp only [StableHlo.after_cons, StableHlo.after_nil]
  exact StableHlo.reshape_result' ..

/-- The index of column `j`, as the first point loads it. -/
theorem indices_apply (c : Dev nD) (j : Fin 512) : indices m c (ix2 0 j) = species m c (ix1 j) := by
  obtain ⟨-, -, -, -, e0, e1⟩ := window_index ⟨0, by rw [show cfg0.N = 16 from N_0]; decide⟩
  unfold indices iblk
  rw [View.read_apply]
  refine (congrFun (indices_row m c) _).trans (shapeCast_apply _ shapeCasts_S512_S1x512 _ (ix1 j) ?_)
  rw [Shape.rowMajor_val_one, Shape.rowMajor_val_two]
  show j.val = (win0_0.index ⟨0, _⟩ 0 * 1 + 1 * 0) * 512 + (win0_0.index ⟨0, _⟩ 1 * 512 + 1 * j.val)
  rw [e0, e1]
  omega

/-! ## The result -/

/-- Row `i` of the result is row `i % 1024` of the output block of point `i / 1024`. -/
theorem result_block (c : Dev nD) (i : Fin 16384) (k : Fin 1024) :
    ∃ (t : Fin cfg0.N) (a : Fin 1024), i.val = t.val * 1024 + a.val ∧
      G5 m c (ix2 i k) = outBlock (F := Ideal) (iblk m c 1 t) (iblk m c 2 t) (k0_pay2 (indices m c)) (iblk m c 3 t)
        (iblk m c 4 t) (ix2 a k) := by
  have hN : cfg0.N = 16 := N_0
  have hi := i.isLt
  have hk := k.isLt
  have hp : pt5Of (ix2 i k) = i.val / 1024 := by
    show 1 * (i.val / 1024 - 0) + 1 * (k.val / 1024 - 0) = i.val / 1024
    omega
  have ht : pt5Of (ix2 i k) < cfg0.N := by rw [hp, hN]; omega
  refine ⟨⟨pt5Of (ix2 i k), ht⟩, ⟨i.val % 1024, Nat.mod_lt _ (by decide)⟩, ?_, ?_⟩
  · show i.val = pt5Of (ix2 i k) * 1024 + i.val % 1024
    rw [hp]; omega
  · rw [← out_eq m c ⟨pt5Of (ix2 i k), ht⟩]
    unfold G5
    rw [dif_pos ht, ← outsAt0_sweep m c _ ht]
    refine congrArg (outsAt0 m c (pt5Of (ix2 i k)) ht).1 (funext fun b => Fin.ext ?_)
    match b with
    | ⟨0, _⟩ => rfl
    | ⟨1, _⟩ => show k.val % 1024 = k.val; omega

/-- The kernel's left half: the rate at the column's index, scaled by the reciprocal of the row's layers, plus the
    row's loss term. -/
theorem left_apply (c : Dev nD) (i : Fin 16384) (j : Fin 512) (q : Fin 1024)
    (hq : (species m c (ix1 j)).toNat = q.val) :
    G5 m c (ix2 i (lo j))
      = rates m c (ix2 i q) * Ideal.div 1 (layers layerFactor (fun k => abundances m c (ix2 i k)))
        + Ideal.div (losses m c (ix2 i 0))
            (max (surf (fun k => abundances m c (ix2 i k))) (mant (fun k => abundances m c (ix2 i k)))) := by
  obtain ⟨t, a, hi, e⟩ := result_block m c i (lo j)
  have hr : row (iblk m c 1 t) a = fun k => rates m c (ix2 i k) := funext (rates_block m c t a i hi)
  have hy : row (iblk m c 2 t) a = fun k => abundances m c (ix2 i k) := funext (abundances_block m c t a i hi)
  have hsum : ∑ k : Fin 1024, rates m c (ix2 i k) * k0_pay2 (F := Ideal) (indices m c) (ix2 k j) = rates m c (ix2 i q) := by
    rw [← sum_oneHot (fun k => rates m c (ix2 i k)) q]
    refine Finset.sum_congr rfl fun k _ => ?_
    rw [oneHot_apply, indices_apply]
    have hk : BitVec.ofNat 32 k.val = species m c (ix1 j) ↔ k = q := by
      rw [← BitVec.toNat_inj, hq, BitVec.toNat_ofNat, Nat.mod_eq_of_lt (by have := k.isLt; omega)]
      exact ⟨Fin.ext, congrArg Fin.val⟩
    simp only [hk]
  rw [e]
  refine (join_lo _ _ a j).trans ?_
  rw [leftHalf_apply, hr, hy, losses_block m c t a i hi, hsum]

/-- The kernel's right half: the gain term plus the scaled mantle sum over the surface total. -/
theorem right_apply (c : Dev nD) (i : Fin 16384) (j : Fin 512) :
    G5 m c (ix2 i (hi j))
      = gains m c (ix2 i 0) * gainFactor
        + Ideal.div (mant (fun k => rates m c (ix2 i k) * abundances m c (ix2 i k))
            * Ideal.div 1 (layers layerFactor (fun k => abundances m c (ix2 i k))))
          (surf (fun k => abundances m c (ix2 i k))) := by
  obtain ⟨t, a, hi', e⟩ := result_block m c i (hi j)
  have hr : row (iblk m c 1 t) a = fun k => rates m c (ix2 i k) := funext (rates_block m c t a i hi')
  have hy : row (iblk m c 2 t) a = fun k => abundances m c (ix2 i k) := funext (abundances_block m c t a i hi')
  rw [e]
  refine (join_hi _ _ a j).trans ?_
  rw [rightHalf_apply, hr, hy, gains_block m c t a i hi']

end Cert.Array

end
-- ==== Proof.Pre.lean ====
/-
  What the precondition `drawn` says, read off its printed predicate: the masks are the two halves of the species, every
  index is the number of a species, and every row's surface total is positive.
-/
module

public import proofs.«01_k».proof.Proof.Algebra
public import proofs.«01_k».proof.Proof.Gen.Pre_drawn
public import Idealize.ShloMosaic.Lib.ReduceAll
public import Idealize.ShloMosaic.Lib.Affine
public import Idealize.ShloMosaic.Lib.IdealHost
public import Idealize.ShloMosaic.Lib.ValueIdx
public import Idealize.ShloMosaic.Lib.WordCmp
public import Idealize.ShloMosaic.Lib.Pipeline.Value

@[expose] public section

noncomputable section

open scoped BigOperators

namespace Cert.Pre

open Cert.Pre_drawn Cert.Pre_drawn.Facts Cert.Row
open Idealize.ShloMosaic Idealize.ShloMosaic.ValueIdx

/-- The precondition's four parts, as facts about the abundances, the two masks and the indices. -/
structure Drawn (y : FVec Ideal S16384x1024 .f32) (sm mm : IVec S1024 1) (idx : IVec S512 32) : Prop where
  /-- The surface mask is set exactly on the first 512 species. -/
  surface : ∀ k : Fin 1024, sm (ix1 k) = BitVec.ofBool (decide (k.val < 512))
  /-- The mantle mask is set exactly on the other 512. -/
  mantle : ∀ k : Fin 1024, mm (ix1 k) = BitVec.ofBool (decide (512 ≤ k.val))
  /-- Every index is the number of a species. -/
  index : ∀ j : Fin 512, (idx (ix1 j)).toNat < 1024
  /-- Every row has some material on its surface. -/
  positive : ∀ i : Fin 16384, 0 < surf (fun k => y (ix2 i k))

/-- Two bits whose comparison for equality is one are equal. -/
theorem eq_of_cmpi_eq {w : Nat} {a b : BitVec w} (h : IntOp.cmpi .eq a b = 1#1) : a = b := by
  rw [WordCmp.cmpi_eq_eq, WordCmp.ofBool_decide_eq_one_iff] at h
  exact h

/-- A 32-bit word between 0 and 1023 as a signed number is below 1024 as a natural number. -/
theorem toNat_lt_of_bounds {x : BitVec 32} (h0 : IntOp.cmpi .sge x 0#32 = 1#1) (h1 : IntOp.cmpi .slt x 1024#32 = 1#1) :
    x.toNat < 1024 := by
  rw [WordCmp.cmpi_sge_eq, WordCmp.ofBool_decide_eq_one_iff] at h0
  rw [WordCmp.cmpi_slt_eq, WordCmp.ofBool_decide_eq_one_iff] at h1
  have e0 : (0#32 : BitVec 32).toInt = 0 := by decide
  have e1 : (1024#32 : BitVec 32).toInt = 1024 := by decide
  rw [e0] at h0
  rw [e1] at h1
  rw [BitVec.toInt_eq_toNat_cond] at h0 h1
  have := x.isLt
  split at h0 <;> omega

/-- The precondition's surface totals: each is the sum of the row's surface half. -/
theorem surface_total [Facts] (y : FVec Ideal S16384x1024 .f32) (i : Fin 16384) :
    Host.reduceAdd (F := Ideal) (extractStridedSlice S16384x512 ![0, 0] y slices_S16384x1024_S16384x512_0_0)
      (constant S_ .f32 0x00000000#32) reducesTo_S16384x512_S16384_d1 h_S_ (ix1 i) = surf (fun k => y (ix2 i k)) := by
  simp only [Host.reduceAdd, Ideal.hostReduceAdd_def]
  rw [Ideal.hostReduceAdd_single reducesTo_S16384x512_S16384_d1 (by decide), constant_apply, Ideal.ofBits_zero_f32, zero_add]
  refine Finset.sum_congr rfl fun k _ => extractStridedSlice_apply _ y _ _ _ fun b => ?_
  match b with
  | ⟨0, _⟩ => show i.val = 0 + i.val; omega
  | ⟨1, _⟩ => show k.val = 0 + k.val; omega

/-- The predicate holds only of arguments with the four properties. -/
theorem drawn_of_fn [Facts] (r y : FVec Ideal S16384x1024 .f32) (sm mm : IVec S1024 1) (g l : FVec Ideal S16384x1 .f32)
    (idx : IVec S512 32) (h : Cert.Pre_drawn.fn (F := Ideal) r y sm mm g l idx = fun _ => 1#1) : Drawn y sm mm idx := by
  have e := congrFun h (Shape.Idx.first h_S_)
  have hS : Subsingleton S_.Idx := ⟨fun a b => funext fun d => d.elim0⟩
  unfold Cert.Pre_drawn.fn Cert.Pre_drawn.fn_part1 at e
  dsimp only at e
  obtain ⟨e, hpos⟩ := IntOp.andi_eq_one.mp e
  obtain ⟨e, hidx⟩ := IntOp.andi_eq_one.mp e
  obtain ⟨hsm, hmm⟩ := IntOp.andi_eq_one.mp e
  refine ⟨fun k => ?_, fun k => ?_, fun j => ?_, fun i => ?_⟩
  · refine (eq_of_cmpi_eq (Host.reduce_andi_all _ _ _ _ _ hsm (ix1 k))).trans ?_
    exact WordCmp.cmpi_slt_ofNat (w := 32) (a := k.val) (b := 512) (by have := k.isLt; norm_num; omega) (by decide)
  · refine (eq_of_cmpi_eq (Host.reduce_andi_all _ _ _ _ _ hmm (ix1 k))).trans ?_
    exact WordCmp.cmpi_sge_ofNat (w := 32) (a := k.val) (b := 512) (by have := k.isLt; norm_num; omega) (by decide)
  · obtain ⟨h0, h1⟩ := IntOp.andi_eq_one.mp (Host.reduce_andi_all _ _ _ _ _ hidx (ix1 j))
    exact toNat_lt_of_bounds h0 h1
  · have hp := Host.reduce_andi_all _ _ _ _ _ hpos (ix1 i)
    rw [cmpf_apply, surface_total] at hp
    have hq : BitVec.ofBool (decide (Ideal.ofBits .f32 0x00000000#32 < surf (fun k => y (ix2 i k)))) = 1#1 := hp
    rw [Ideal.ofBits_zero_f32, WordCmp.ofBool_decide_eq_one_iff] at hq
    exact hq

end Cert.Pre

end
-- ==== Proof.Ref.lean ====
/-
  What the reference computes, element by element, at arguments the precondition admits. Its left half is the rate at
  the column's index divided by the row's layers, plus the row's loss term (`left_apply`); its right half is one number
  per row, the gain term plus a masked sum over all species (`right_apply`), which the row arithmetic turns into the
  kernel's form.
-/
module

public import proofs.«01_k».proof.Proof.Algebra
public import proofs.«01_k».proof.Proof.Pre
public import proofs.«01_k».proof.Proof.Gen.ReferenceIdeal.Read

@[expose] public section

noncomputable section

open scoped BigOperators

namespace Cert.Ref

open Cert.ReferenceIdeal Cert.ReferenceIdeal.Facts₀ Cert.ReferenceIdeal.Read Cert.Row
open Idealize.ShloMosaic Idealize.ShloMosaic.ValueIdx

/-- Row `i` of an array, as a function of the species. -/
abbrev row (v : FVec Ideal S16384x1024 .f32) (i : Fin 16384) : Fin 1024 → EReal := fun k => v (ix2 i k)

/-- Layers per unit of mantle abundance. -/
abbrev layerFactor : EReal := Ideal.ofBits .f32 0x38D1B717#32
/-- The factor on a row's gain. -/
abbrev gainFactor : EReal := Ideal.ofBits .f32 0x3851B717#32

variable {r y : FVec Ideal S16384x1024 .f32} {sm mm : IVec S1024 1} {g l : FVec Ideal S16384x1 .f32} {idx : IVec S512 32}

/-- A mask bit as a number: one if set, zero if not. -/
theorem bit_value (p : Prop) [Decidable p] :
    (FloatOps.uitofp .f32 (BitVec.ofBool (decide p)) : Ideal .f32) = if p then (1 : EReal) else 0 := by
  by_cases h : p
  · rw [if_pos h, decide_eq_true h]
    show (((1#1 : BitVec 1).toNat : ℝ) : EReal) = 1
    norm_num
  · rw [if_neg h, decide_eq_false h]
    show (((0#1 : BitVec 1).toNat : ℝ) : EReal) = 0
    norm_num

/-- The surface mask spread over the rows. -/
theorem surface_mask (h : Pre.Drawn y sm mm idx) (i : Fin 16384) (k : Fin 1024) :
    val_main_v4 (F := Ideal) sm (ix2 i k) = surfMask k := by
  rw [val_main_v4_apply, val_main_v3_apply, val_main_v1_apply,
    show idx_main_v3 (idx_main_v4 (ix2 i k)) = ix1 k from funext fun a => by match a with | ⟨0, _⟩ => rfl, h.surface]
  exact bit_value _

/-- The mantle mask spread over the rows, where it selects the abundances. -/
theorem mantle_mask (h : Pre.Drawn y sm mm idx) (i : Fin 16384) (k : Fin 1024) :
    val_main_v9 (F := Ideal) mm (ix2 i k) = mantMask k := by
  rw [val_main_v9_apply, val_main_v8_apply, val_main_v2_apply,
    show idx_main_v8 (idx_main_v9 (ix2 i k)) = ix1 k from funext fun a => by match a with | ⟨0, _⟩ => rfl, h.mantle]
  exact bit_value _

/-- The mantle mask spread over the rows, where it selects the desorbing rates. -/
theorem mantle_mask' (h : Pre.Drawn y sm mm idx) (i : Fin 16384) (k : Fin 1024) :
    val_main_v26 (F := Ideal) mm (ix2 i k) = mantMask k := by
  rw [val_main_v26_apply, val_main_v25_apply, val_main_v2_apply,
    show idx_main_v25 (idx_main_v26 (ix2 i k)) = ix1 k from funext fun a => by match a with | ⟨0, _⟩ => rfl, h.mantle]
  exact bit_value _

/-- The masked sum of a row's abundances over all species is its surface total. -/
theorem surface_total (h : Pre.Drawn y sm mm idx) (i : Fin 16384) :
    val_main_v7 (F := Ideal) y sm (ix2 i 0) = surf (row y i) := by
  rw [val_main_v7_apply, val_main_v6_apply, val_main_cst_apply]
  refine (congrArg (· + _) Ideal.ofBits_zero_f32).trans ((zero_add _).trans ?_)
  rw [← sum_surfMask]
  refine Finset.sum_congr rfl fun k _ => ?_
  rw [val_main_v5_apply, show idx_main_v6 (idx_main_v7 (ix2 i 0)) k = ix2 i k from
    funext fun a => by match a with | ⟨0, _⟩ => rfl | ⟨1, _⟩ => rfl, surface_mask h]
  rfl

/-- The masked sum of a row's abundances over all species is its mantle total. -/
theorem mantle_total (h : Pre.Drawn y sm mm idx) (i : Fin 16384) :
    val_main_v12 (F := Ideal) y mm (ix2 i 0) = mant (row y i) := by
  rw [val_main_v12_apply, val_main_v11_apply, val_main_cst_0_apply]
  refine (congrArg (· + _) Ideal.ofBits_zero_f32).trans ((zero_add _).trans ?_)
  rw [← sum_mantMask]
  refine Finset.sum_congr rfl fun k _ => ?_
  rw [val_main_v10_apply, show idx_main_v11 (idx_main_v12 (ix2 i 0)) k = ix2 i k from
    funext fun a => by match a with | ⟨0, _⟩ => rfl | ⟨1, _⟩ => rfl, mantle_mask h]
  rfl

/-- A rate divided by its row's layers. -/
theorem rate_apply (h : Pre.Drawn y sm mm idx) (i : Fin 16384) (k : Fin 1024) :
    val_main_v18 (F := Ideal) r y mm (ix2 i k) = Ideal.div (row r i k) (layers layerFactor (row y i)) := by
  rw [val_main_v18_apply, val_main_v17_apply, val_main_v16_apply, val_main_v14_apply, val_main_v15_apply,
    val_main_v13_apply, val_main_cst_1_apply, val_main_cst_2_apply,
    show idx_main_v17 (ix2 i k) = ix2 i 0 from funext fun a => by match a with | ⟨0, _⟩ => rfl | ⟨1, _⟩ => rfl,
    mantle_total h]
  show Ideal.div (r (ix2 i k)) (max (mant (row y i) * layerFactor) (Ideal.ofBits .f32 0x3F800000#32)) = _
  rw [Ideal.ofBits_one_f32]
  rfl

/-- An admitted index is not negative, so the reference uses it as it is. -/
theorem index_apply (h : Pre.Drawn y sm mm idx) (j : Fin 512) :
    val_main_call1_v5 (F := Ideal) idx (ix2 j 0) = idx (ix1 j) := by
  have hj := h.index j
  rw [val_main_call1_v5_apply, val_main_call1_v4_apply, val_main_call1_v1_apply, val_main_call1_v0_apply,
    val_main_call1_c_apply,
    show idx_main_call1_v5 (ix2 j 0) = ix1 j from funext fun a => by match a with | ⟨0, _⟩ => rfl,
    WordCmp.cmpi_slt_of_lt (by norm_num; omega) (by decide)]
  exact select_zero _ _

/-- An admitted index is in range, so the reference never puts its out-of-range value in its place. -/
theorem in_range (h : Pre.Drawn y sm mm idx) (i : Fin 16384) (j : Fin 512) :
    val_main_call1_v14 (F := Ideal) idx (ix2 i j) = 1#1 := by
  rw [val_main_call1_v14_apply]
  unfold val_main_call1_v12
  refine Host.reduce_andi_one _ _ _ _ _ rfl fun q => ?_
  obtain ⟨a, b, rfl⟩ : ∃ (a : Fin 512) (b : Fin 1), q = ix2 a b := ⟨_, _, eq_ix2 q⟩
  obtain rfl : b = 0 := Subsingleton.elim _ _
  have ha := h.index a
  rw [val_main_call1_v11_apply, val_main_call1_v7_apply, val_main_call1_v10_apply, index_apply h,
    val_main_call1_v6_apply, val_main_call1_v9_apply, val_main_call1_v8_apply, val_main_call1_c_1_apply,
    val_main_call1_c_2_apply, WordCmp.cmpi_sge_of_lt (by norm_num; omega) (by decide),
    WordCmp.cmpi_sle_of_lt (by norm_num; omega) (by decide), decide_eq_true (by norm_num),
    decide_eq_true (by norm_num; omega)]
  rfl

/-- The gather of columns, at row `i` and column `j`: the operand's row `i` at the index of column `j`, clamped to the
    operand's columns. -/
theorem gather_apply (x : FVec Ideal S16384x1024 .f32) (s : IVec S512x1 32) (i : Fin 16384) (j : Fin 512) :
    Host.gather gather_S16384x1024_S512x1_S16384x512_0_1_n_n_1_1_163841 x s (ix2 i j)
      = x (ix2 i ⟨min (s (ix2 j 0)).toInt.toNat 1023, by omega⟩) := by
  unfold Host.gather
  refine congrArg x (funext fun a => Fin.ext ?_)
  show GatherDims.start _ (ix2 i j) s a + GatherDims.batchCoord _ (ix2 i j) a + GatherDims.offCoord _ (ix2 i j) a = _
  rw [GatherDims.batchCoord_eq_zero _ _ _ (List.not_mem_nil), Nat.add_zero]
  obtain rfl | rfl : a = 0 ∨ a = 1 := by
    match a with
    | ⟨0, _⟩ => exact Or.inl rfl
    | ⟨1, _⟩ => exact Or.inr rfl
  · unfold GatherDims.start GatherDims.offCoord
    rw [dif_neg (by decide +kernel), dif_pos (by decide +kernel), Nat.zero_add]
    rfl
  · rw [GatherDims.offCoord_eq_zero _ _ _ (by decide +kernel), Nat.add_zero]
    unfold GatherDims.start
    rw [dif_pos (by decide +kernel)]
    refine congrArg (fun q => min (s q).toInt.toNat 1023) (funext fun b => Fin.ext ?_)
    match b with
    | ⟨0, _⟩ => rfl
    | ⟨1, _⟩ => rfl

/-- The species whose rate column `j` takes. -/
abbrev species (h : Pre.Drawn y sm mm idx) (j : Fin 512) : Fin 1024 := ⟨(idx (ix1 j)).toNat, h.index j⟩

/-- The column of rates the reference takes at an index. -/
theorem taken_apply (h : Pre.Drawn y sm mm idx) (i : Fin 16384) (j : Fin 512) :
    val_main_v19 (F := Ideal) r y mm idx (ix2 i j)
      = Ideal.div (row r i (species h j)) (layers layerFactor (row y i)) := by
  have hj := h.index j
  rw [val_main_v19_apply, in_range h]
  refine (select_one _ _).trans ?_
  unfold val_main_call1_v13
  rw [gather_apply, ← rate_apply h]
  refine congrArg (fun k => val_main_v18 (F := Ideal) r y mm (ix2 i k)) (Fin.ext ?_)
  show min (val_main_call1_v5 (F := Ideal) idx (ix2 j 0)).toInt.toNat 1023 = (idx (ix1 j)).toNat
  rw [index_apply h, WordCmp.toInt_eq_toNat_of_lt_half (by norm_num; omega), Int.toNat_natCast]
  omega

/-- The reference's left half. -/
theorem left_apply (h : Pre.Drawn y sm mm idx) (i : Fin 16384) (j : Fin 512) :
    val_main_v38 (F := Ideal) r y sm mm g l idx (ix2 i (lo j))
      = Ideal.div (row r i (species h j)) (layers layerFactor (row y i))
        + Ideal.div (l (ix2 i 0)) (max (surf (row y i)) (mant (row y i))) := by
  unfold val_main_v38
  refine (concatenate_pair_apply_left (t := S16384x1024) (s₁ := S16384x512) (s₂ := S16384x512) 1 _ _ _ (ix2 i (lo j)) rfl (ix2 i j) fun b => by
    match b with
    | ⟨0, _⟩ => rfl
    | ⟨1, _⟩ => rfl).trans ?_
  rw [val_main_v23_apply, taken_apply h, val_main_v22_apply, val_main_v21_apply, val_main_v20_apply,
    show idx_main_v22 (ix2 i j) = ix2 i 0 from funext fun a => by match a with | ⟨0, _⟩ => rfl | ⟨1, _⟩ => rfl,
    surface_total h, mantle_total h]
  rfl

/-- The masked sum over all species of the right half, in the kernel's form. -/
theorem desorbed_total (h : Pre.Drawn y sm mm idx) (i : Fin 16384) :
    val_main_v31 (F := Ideal) r y sm mm (ix2 i 0)
      = Ideal.div (mant (fun k => row r i k * row y i k) * Ideal.div 1 (layers layerFactor (row y i)))
          (surf (row y i)) := by
  rw [val_main_v31_apply, val_main_v30_apply, val_main_cst_3_apply]
  refine (congrArg (· + _) Ideal.ofBits_zero_f32).trans ((zero_add _).trans ?_)
  rw [← mantle_sum layerFactor (row r i) (row y i) (h.positive i)]
  refine Finset.sum_congr rfl fun k _ => ?_
  rw [show idx_main_v30 (idx_main_v31 (ix2 i 0)) k = ix2 i k from
      funext fun a => by match a with | ⟨0, _⟩ => rfl | ⟨1, _⟩ => rfl,
    val_main_v29_apply, val_main_v28_apply, val_main_v27_apply, val_main_v24_apply, rate_apply h, mantle_mask' h,
    show idx_main_v28 (ix2 i k) = ix2 i 0 from funext fun a => by match a with | ⟨0, _⟩ => rfl | ⟨1, _⟩ => rfl,
    surface_total h]
  rfl

/-- The reference's right half. -/
theorem right_apply (h : Pre.Drawn y sm mm idx) (i : Fin 16384) (j : Fin 512) :
    val_main_v38 (F := Ideal) r y sm mm g l idx (ix2 i (hi j))
      = g (ix2 i 0) * gainFactor
        + Ideal.div (mant (fun k => row r i k * row y i k) * Ideal.div 1 (layers layerFactor (row y i)))
            (surf (row y i)) := by
  unfold val_main_v38
  refine (concatenate_pair_apply_right (t := S16384x1024) (s₁ := S16384x512) (s₂ := S16384x512) 1 _ _ _ (ix2 i (hi j)) rfl rfl (ix2 i j)
    (fun b hb => by
      match b with
      | ⟨0, _⟩ => rfl
      | ⟨1, _⟩ => exact absurd rfl hb)
    (by show j.val + 512 = 512 + j.val; omega)).trans ?_
  rw [val_main_v37_apply, val_main_v36_apply, val_main_v35_apply, val_main_v34_apply, val_main_v33_apply,
    val_main_v32_apply, val_main_cst_4_apply,
    show idx_main_v35 (idx_main_v36 (idx_main_v37 (ix2 i j))) = ix2 i 0 from funext fun a => Fin.ext (by
      have hi' := i.isLt
      have hj' := j.isLt
      match a with
      | ⟨0, _⟩ =>
        show (((0 * 16384 + (i.val * 512 + j.val) / 512 % 16384) * 1 + 0) * 1 + 0) / 1 = i.val
        omega
      | ⟨1, _⟩ => rfl),
    desorbed_total h]
  rfl

end Cert.Ref

end
-- ==== Proof.lean ====
/-
  The proof of `Cert.Claim`. The frames are the generated runs. The value claim puts the kernel's array (Proof/Array.lean)
  beside the reference's (Proof/Ref.lean), element by element, under what the precondition says (Proof/Pre.lean): the
  left half by moving the division by the layers out of the selection, the right half by the row arithmetic of
  Proof/Algebra.lean.
-/
module

public import proofs.«01_k».proof.Defs
public import proofs.«01_k».proof.Proof.Array
public import proofs.«01_k».proof.Proof.Pre
public import proofs.«01_k».proof.Proof.Ref
public import proofs.«01_k».proof.Proof.Gen.Kernel.Frame
public import proofs.«01_k».proof.Proof.Gen.KernelIdeal.Value
public import proofs.«01_k».proof.Proof.Gen.Pre_drawn
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.ValueIdx Idealize.SL.Sem

/-- From any memory the reference runs, leaves its arguments unchanged and ends with every counter zero. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from any memory the precondition admits. -/
theorem reference_frame_drawn : Cert.quiescent_ReferenceIdeal_pre_drawn := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On arguments the precondition admits, the reference's array is the kernel's, element by element. -/
theorem results_agree
    (m : (ℓ : Loc Cert.KernelIdeal.nD Cert.KernelIdeal.τ Cert.KernelIdeal.sig) → Buf (Elt Ideal) ℓ)
    (c : Dev Cert.KernelIdeal.nD) (sm mm : IVec Cert.ReferenceIdeal.S1024 1)
    (h : Pre.Drawn (Array.abundances m c) sm mm (Array.species m c)) :
    Cert.ReferenceIdeal.Read.val_main_v38 (F := Ideal) (Array.rates m c) (Array.abundances m c) sm mm (Array.gains m c)
      (Array.losses m c) (Array.species m c) = Cert.KernelIdeal.Value.G5 m c := by
  funext i
  obtain ⟨a, k, rfl⟩ : ∃ (a : Fin 16384) (k : Fin 1024), i = ix2 a k := ⟨_, _, eq_ix2 i⟩
  by_cases hk : k.val < 512
  · obtain ⟨j, rfl⟩ : ∃ j : Fin 512, k = Row.lo j := ⟨⟨k.val, hk⟩, rfl⟩
    rw [Ref.left_apply h, Array.left_apply m c a j (Ref.species h j) rfl, Row.div_layers]
  · have hk' := k.isLt
    obtain ⟨j, rfl⟩ : ∃ j : Fin 512, k = Row.hi j :=
      ⟨⟨k.val - 512, by omega⟩, Fin.ext (by show k.val = 512 + (k.val - 512); omega)⟩
    rw [Ref.right_apply h, Array.right_apply m c a j]

/-- The value claim: at the exact instance the kernel and the reference end with equal results. -/
theorem kernel_agrees : Cert.algebraic_KernelIdeal_ReferenceIdeal_pre_drawn := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v38_eq]
  obtain ⟨h0, h1, h2, h3, h4, h5, h6⟩ := hagree c
  rw [h0, h1, h2, h3, h4, h5, h6]
  exact results_agree m c _ _ (Pre.drawn_of_fn _ _ _ _ _ _ _ (hpre c))

/-- Everything the certificate claims. -/
theorem claim : Cert.Claim :=
  ⟨Cert.Kernel.Gen.facts, Cert.KernelIdeal.Gen.facts, Cert.ReferenceIdeal.Gen.facts, Cert.Pre_drawn.Gen.facts,
    fun m ρ _ => Cert.Kernel.Gen.frame m ρ, fun m ρ _ => Cert.KernelIdeal.Gen.frame m ρ,
    fun m ρ _ => Cert.KernelIdeal.Gen.frame m ρ, reference_frame, reference_frame_drawn,
    (trivial : Cert.preserves_Kernel_KernelIdeal), kernel_agrees⟩

end Cert.Proof

end
